-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x192x256x256 : Shape := ⟨4, ![8, 192, 256, 256]⟩
abbrev S192 : Shape := ⟨1, ![192]⟩
abbrev S192x8 : Shape := ⟨2, ![192, 8]⟩
abbrev S8x192x65536 : Shape := ⟨3, ![8, 192, 65536]⟩
abbrev S192x1 : Shape := ⟨2, ![192, 1]⟩
abbrev S1x192x2048 : Shape := ⟨3, ![1, 192, 2048]⟩
abbrev S8x192 : Shape := ⟨2, ![8, 192]⟩
abbrev S192x192 : Shape := ⟨2, ![192, 192]⟩
abbrev S192x2048 : Shape := ⟨2, ![192, 2048]⟩

abbrev nBuf : Space → Nat
  | .hbm => 7
  | .vmem => 6
  | .smem => 0
  | _ => 0

abbrev bufTy : (tb : Table) → Fin (tcTables nBuf tb) → BufTy
  | .hbm, ⟨0, _⟩ => ⟨S8x192x256x256, .f32⟩
  | .hbm, ⟨1, _⟩ => ⟨S192, .f32⟩
  | .hbm, ⟨2, _⟩ => ⟨S192x8, .f32⟩
  | .hbm, ⟨3, _⟩ => ⟨S8x192x65536, .f32⟩
  | .hbm, ⟨4, _⟩ => ⟨S192x1, .f32⟩
  | .hbm, ⟨5, _⟩ => ⟨S8x192x65536, .f32⟩
  | .hbm, ⟨6, _⟩ => ⟨S8x192x256x256, .f32⟩
  | .local _ .vmem, ⟨0, _⟩ => ⟨S1x192x2048, .f32⟩
  | .local _ .vmem, ⟨1, _⟩ => ⟨S1x192x2048, .f32⟩
  | .local _ .vmem, ⟨2, _⟩ => ⟨S192x1, .f32⟩
  | .local _ .vmem, ⟨3, _⟩ => ⟨S192x8, .f32⟩
  | .local _ .vmem, ⟨4, _⟩ => ⟨S1x192x2048, .f32⟩
  | .local _ .vmem, ⟨5, _⟩ => ⟨S1x192x2048, .f32⟩
  | _, _ => ⟨S8x192x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S192x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x192x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x192x256x256 : Shape := ⟨4, ![8, 192, 256, 256]⟩
abbrev S192 : Shape := ⟨1, ![192]⟩
abbrev S192x8 : Shape := ⟨2, ![192, 8]⟩
abbrev S_ : Shape := ⟨0, ![]⟩
abbrev S1x192x1x1 : Shape := ⟨4, ![1, 192, 1, 1]⟩
abbrev S8x8x256x256 : Shape := ⟨4, ![8, 8, 256, 256]⟩
abbrev S8x256x256x192 : Shape := ⟨4, ![8, 256, 256, 192]⟩

abbrev nBuf : Space → Nat
  | .hbm => 27
  | .vmem => 0
  | .smem => 0
  | _ => 0

abbrev bufTy : (tb : Table) → Fin (tcTables nBuf tb) → BufTy
  | .hbm, ⟨0, _⟩ => ⟨S8x192x256x256, .f32⟩
  | .hbm, ⟨1, _⟩ => ⟨S192, .f32⟩
  | .hbm, ⟨2, _⟩ => ⟨S192x8, .f32⟩
  | .hbm, ⟨3, _⟩ => ⟨S_, .f32⟩
  | .hbm, ⟨4, _⟩ => ⟨S192, .f32⟩
  | .hbm, ⟨5, _⟩ => ⟨S192, .f32⟩
  | .hbm, ⟨6, _⟩ => ⟨S192, .f32⟩
  | .hbm, ⟨7, _⟩ => ⟨S_, .f32⟩
  | .hbm, ⟨8, _⟩ => ⟨S192, .f32⟩
  | .hbm, ⟨9, _⟩ => ⟨S192, .f32⟩
  | .hbm, ⟨10, _⟩ => ⟨S1x192x1x1, .f32⟩
  | .hbm, ⟨11, _⟩ => ⟨S_, .f32⟩
  | .hbm, ⟨12, _⟩ => ⟨S192x8, .f32⟩
  | .hbm, ⟨13, _⟩ => ⟨S192x8, .f32⟩
  | .hbm, ⟨14, _⟩ => ⟨S192x8, .f32⟩
  | .hbm, ⟨15, _⟩ => ⟨S_, .f32⟩
  | .hbm, ⟨16, _⟩ => ⟨S192x8, .f32⟩
  | .hbm, ⟨17, _⟩ => ⟨S192x8, .f32⟩
  | .hbm, ⟨18, _⟩ => ⟨S8x192x256x256, .f32⟩
  | .hbm, ⟨19, _⟩ => ⟨S8x8x256x256, .f32⟩
  | .hbm, ⟨20, _⟩ => ⟨S8x8x256x256, .f32⟩
  | .hbm, ⟨21, _⟩ => ⟨S8x256x256x192, .f32⟩
  | .hbm, ⟨22, _⟩ => ⟨S8x192x256x256, .f32⟩
  | .hbm, ⟨23, _⟩ => ⟨S8x192x256x256, .f32⟩
  | .hbm, ⟨24, _⟩ => ⟨S8x192x256x256, .f32⟩
  | .hbm, ⟨25, _⟩ => ⟨S8x192x256x256, .f32⟩
  | .hbm, ⟨26, _⟩ => ⟨S8x192x256x256, .f32⟩
  | _, _ => ⟨S8x192x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Algebra.lean ====
/- The mathematics of the certificate, over the extended reals and free of any program.

   A pixel is a row of 192 channel values. The layer scales channel `ch` by one over the root of a quadratic form of
   the row: `∑ k, M ch k * x k ²` plus a bias, where `M = A Aᵀ` has rank 8. The kernel forms `M` first and then
   applies it; the reference projects the squares to 8 numbers and then expands them. The two agree because every
   factor is nonnegative, so that multiplication distributes over the sums even where one of them is infinite. -/
module

public import Idealize.ShloMosaic.PureOps.Ideal
public import Mathlib.Data.EReal.Operations

@[expose] public section

noncomputable section

namespace Cert.Gdn

open Idealize.ShloMosaic

/-! ## Sums of nonnegative extended reals -/

/-- A factor goes into a sum of nonnegative terms from the right. -/
theorem sum_mul_of_nonneg {ι : Type} (s : Finset ι) (f : ι → EReal) (y : EReal) (hf : ∀ i, 0 ≤ f i) :
    (∑ i ∈ s, f i) * y = ∑ i ∈ s, f i * y := by
  classical
  induction s using Finset.induction_on with
  | empty => simp
  | insert a s ha ih =>
    rw [Finset.sum_insert ha, Finset.sum_insert ha,
      EReal.right_distrib_of_nonneg (hf a) (Finset.sum_nonneg fun i _ => hf i), ih]

/-- A factor goes into a sum of nonnegative terms from the left. -/
theorem mul_sum_of_nonneg {ι : Type} (s : Finset ι) (f : ι → EReal) (y : EReal) (hf : ∀ i, 0 ≤ f i) :
    y * ∑ i ∈ s, f i = ∑ i ∈ s, y * f i := by
  rw [mul_comm, sum_mul_of_nonneg s f y hf]
  exact Finset.sum_congr rfl fun i _ => mul_comm _ _

/-- `(A Aᵀ) z = A (Aᵀ z)` at one row, for a nonnegative matrix and a nonnegative vector of extended reals. -/
theorem gram_apply {κ ρ : Type} [Fintype κ] [Fintype ρ] (a : ρ → EReal) (A : κ → ρ → EReal) (z : κ → EReal)
    (ha : ∀ r, 0 ≤ a r) (hA : ∀ k r, 0 ≤ A k r) (hz : ∀ k, 0 ≤ z k) :
    ∑ k, (∑ r, a r * A k r) * z k = ∑ r, a r * ∑ k, A k r * z k := by
  calc ∑ k, (∑ r, a r * A k r) * z k
      = ∑ k, ∑ r, a r * (A k r * z k) := Finset.sum_congr rfl fun k _ => by
        rw [sum_mul_of_nonneg _ _ _ fun r => mul_nonneg (ha r) (hA k r)]
        exact Finset.sum_congr rfl fun r _ => mul_assoc _ _ _
    _ = ∑ r, ∑ k, a r * (A k r * z k) := Finset.sum_comm
    _ = ∑ r, a r * ∑ k, A k r * z k := Finset.sum_congr rfl fun r _ =>
        (mul_sum_of_nonneg _ _ _ fun k => mul_nonneg (hA k r) (hz k)).symm

/-! ## The parameters -/

/-- The square of an extended real is nonnegative. -/
theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

/-- The lower bound on a stored matrix entry, the word of 2⁻¹⁸. -/
abbrev boundA : EReal := Ideal.ofBits .f32 0x36800000#32
/-- The pedestal, the word of 2⁻³⁶. -/
abbrev pedestal : EReal := Ideal.ofBits .f32 0x2D800000#32
/-- The lower bound on a stored bias, the word nearest to `√(10⁻⁶ + 2⁻³⁶)`. -/
abbrev boundBeta : EReal := Ideal.ofBits .f32 0x3A8312AD#32

/-- A stored parameter read: raised to its bound, squared, the pedestal taken off. -/
def reparam (p bound : EReal) : EReal := max p bound * max p bound - pedestal

/-- The bound on a matrix entry is 2⁻¹⁸. -/
theorem boundA_eq : boundA = (((2 : ℝ) ^ (-18 : ℤ) : ℝ) : EReal) := by
  have h1 : ((0x36800000#32).extractLsb' 31 1 == 1#1) = false := by decide
  have h2 : ((0x36800000#32).extractLsb' 23 8).toNat = 109 := by decide
  have h3 : ((0x36800000#32).extractLsb' 0 23).toNat = 0 := by decide
  simp only [boundA, Ideal.ofBits, Ideal.ieee, h1, h2, h3]
  norm_num

/-- The pedestal is 2⁻³⁶, the square of the bound. -/
theorem pedestal_eq : pedestal = (((2 : ℝ) ^ (-36 : ℤ) : ℝ) : EReal) := by
  have h1 : ((0x2D800000#32).extractLsb' 31 1 == 1#1) = false := by decide
  have h2 : ((0x2D800000#32).extractLsb' 23 8).toNat = 91 := by decide
  have h3 : ((0x2D800000#32).extractLsb' 0 23).toNat = 0 := by decide
  simp only [pedestal, Ideal.ofBits, Ideal.ieee, h1, h2, h3]
  norm_num

/-- The square of the bound is the pedestal. -/
theorem boundA_sq : boundA * boundA = pedestal := by
  rw [boundA_eq, pedestal_eq, ← EReal.coe_mul]
  congr 1
  norm_num

/-- A matrix entry is nonnegative, whatever was stored: the bound's square takes up the pedestal. -/
theorem reparam_nonneg (p : EReal) : 0 ≤ reparam p boundA := by
  have h0 : (0 : EReal) ≤ boundA := by
    rw [boundA_eq]
    exact EReal.coe_nonneg.mpr (by positivity)
  have h1 : boundA ≤ max p boundA := le_max_right _ _
  have h2 : pedestal ≤ max p boundA * max p boundA := by
    rw [← boundA_sq]
    exact mul_le_mul h1 h1 h0 (h0.trans h1)
  unfold reparam
  refine (EReal.sub_nonneg ?_ ?_).mpr h2
  · right; rw [pedestal_eq]; exact EReal.coe_ne_top _
  · right; rw [pedestal_eq]; exact EReal.coe_ne_bot _

/-! ## One pixel -/

/-- What the kernel computes of channel `ch` of a pixel `x`: the form's matrix first, row `ch` of `A Aᵀ`. -/
def gramForm (x : Fin 192 → EReal) (beta : EReal) (A : Fin 192 → Fin 8 → EReal) (ch : Fin 192) : EReal :=
  x ch * Ideal.rsqrt ((∑ k, (∑ r, reparam (A ch r) boundA * reparam (A k r) boundA) * (x k * x k))
    + reparam beta boundBeta)

/-- What the reference computes of it: the squares projected to 8 numbers, and these expanded. -/
def lowRankForm (x : Fin 192 → EReal) (beta : EReal) (A : Fin 192 → Fin 8 → EReal) (ch : Fin 192) : EReal :=
  x ch * Ideal.rsqrt ((∑ r, reparam (A ch r) boundA * ∑ k, reparam (A k r) boundA * (x k * x k))
    + reparam beta boundBeta)

/-- The two are one function, at every extended real. -/
theorem gramForm_eq_lowRankForm (x : Fin 192 → EReal) (beta : EReal) (A : Fin 192 → Fin 8 → EReal) (ch : Fin 192) :
    gramForm x beta A ch = lowRankForm x beta A ch := by
  unfold gramForm lowRankForm
  rw [gram_apply (fun r => reparam (A ch r) boundA) (fun k r => reparam (A k r) boundA) (fun k => x k * x k)
    (fun r => reparam_nonneg _) (fun k r => reparam_nonneg _) (fun k => sq_nonneg' _)]

end Cert.Gdn

end
-- ==== Proof.Block.lean ====
/- What the kernel's region computes: one block first, then the array that the 256 blocks tile. -/
module

public import proofs.«01_k».proof.Proof.Gen.KernelIdeal.Frame
public import proofs.«01_k».proof.Proof.Algebra
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.BlockValue

open Cert.KernelIdeal Cert.KernelIdeal.Gen Cert.Gdn

/-! ## One block -/

/-- What one body call stores at row `y 1` and lane `y 2` of its block: the Gram form of the block's pixel at that
    lane. -/
theorem payload (A : Vec Ideal S192x8 .f32) (b : Vec Ideal S192x1 .f32) (x : Vec Ideal S1x192x2048 .f32)
    (y : S1x192x2048.Idx) : k0_pay1 (F := Ideal) A b x y
      = gramForm (fun k => x (ix3 0 k (y 2))) (b (ix2 (y 1) 0)) (fun k r => A (ix2 k r)) (y 1) := by
  idx_vars y
  pointwise [k0_pay1, gramForm, reparam]

/-! ## The blocks in the arrays -/

variable (m : (ℓ : Loc nD τ sig) → Buf (Elt Ideal) ℓ)

/-- The windows' block indices: the pixels' and the result's windows move with the point, the parameters' stay. -/
theorem idx : ∀ t : Fin cfg0.N, win0_0.index t = ![(grid0.coords t 0).val, 0, (grid0.coords t 1).val]
    ∧ win0_1.index t = ![0, 0] ∧ win0_2.index t = ![0, 0]
    ∧ win0_3.index t = ![(grid0.coords t 0).val, 0, (grid0.coords t 1).val] :=
  (by decide +kernel : ∀ t : Fin grid0.N, _)

/-- Channel `k` of the pixel at lane `y 2` of the point's block of pixels is that channel of the array's pixel at the
    place that the result's block has for `y`. -/
theorem pixel_read (c : Dev nD) (t : Fin cfg0.N) (y : S1x192x2048.Idx) (k : Fin 192) :
    iblk m c 0 t (ix3 0 k (y 2))
      = V m c main_v0 (ix3 (((cfg0.win 3).blk t).view.emb y 0) k (((cfg0.win 3).blk t).view.emb y 2)) := by
  blk_ext [iblk, idx t]

/-- The block of biases is the array of biases. -/
theorem bias_read (c : Dev nD) (t : Fin cfg0.N) (y : S1x192x2048.Idx) :
    iblk m c 1 t (ix2 (y 1) 0) = V m c main_v1 (ix2 (((cfg0.win 3).blk t).view.emb y 1) 0) := by
  blk_ext [iblk, idx t]

/-- The block of matrix entries is the matrix. -/
theorem matrix_read (c : Dev nD) (t : Fin cfg0.N) (k : Fin 192) (r : Fin 8) :
    iblk m c 2 t (ix2 k r) = V m c main_arg2 (ix2 k r) := by
  blk_ext [iblk, idx t]

/-- The result's blocks hold all channels: a block's row is the array's. -/
theorem row_eq (t : Fin cfg0.N) (y : S1x192x2048.Idx) :
    (((cfg0.win 3).blk t).view.emb y 1 : Fin 192) = y 1 := by
  apply Fin.ext
  blk_simp [idx t]

/-! ## The region's result -/

/-- The function that the region computes of its three arrays, index by index: the Gram form of the pixel there. -/
def form (X : FVec Ideal S8x192x65536 .f32) (B : FVec Ideal S192x1 .f32) (A : FVec Ideal S192x8 .f32) :
    FVec Ideal S8x192x65536 .f32 :=
  fun i => gramForm (fun k => X (ix3 (i 0) k (i 2))) (B (ix2 (i 1) 0)) (fun k r => A (ix2 k r)) (i 1)

/-- Every point writes back its block of the form of the arrays, and the blocks tile the result's array. -/
theorem final (c : Dev nD) : (dats m 0 c).arrAt 3 (cfgs 0).N
    = form (V m c main_v0) (V m c main_v1) (V m c main_arg2) := by
  refine (dats m 0 c).arrAt_eq_of_covers 3 _ (by decide +kernel) fun t _ y => ?_
  blk_simp
  rw [after0_3]; frame_out
  rw [payload]
  unfold form
  have hx : (fun k => iblk m c 0 t (ix3 0 k (y 2))) = _ := funext fun k => pixel_read m c t y k
  have hA : (fun k r => iblk m c 2 t (ix2 k r)) = _ := funext fun k => funext fun r => matrix_read m c t k r
  rw [hx, bias_read, hA]
  exact congrArg _ (row_eq t y).symm

end Cert.KernelIdeal.BlockValue

end
-- ==== Proof.ReferenceValue.lean ====
/- What the reference computes: its composed term at an index is the low-rank form of the pixel there. -/
module

public import proofs.«01_k».proof.Proof.Gen.ReferenceIdeal.Run
public import proofs.«01_k».proof.Proof.Algebra
public import Idealize.ShloMosaic.Lib.Pointwise

@[expose] public section

set_option maxRecDepth 16384

noncomputable section

open Idealize.ShloMosaic Idealize.ShloMosaic.TcCoe Idealize.SL.Sem

namespace Cert.ReferenceIdeal.RefForm

open Cert.ReferenceIdeal Cert.ReferenceIdeal.Gen Cert.Gdn

/-- The layer, index by index: the low-rank form of the pixel of image `i 0` at row `i 2` and column `i 3`. -/
def layer (X : FVec Ideal S8x192x256x256 .f32) (B : FVec Ideal S192 .f32) (A : FVec Ideal S192x8 .f32) :
    FVec Ideal S8x192x256x256 .f32 :=
  fun i => lowRankForm (fun k => X (ix4 (i 0) k (i 2) (i 3))) (B (ix1 (i 1))) (fun k r => A (ix2 k r)) (i 1)

variable (m : (ℓ : Loc nD τ sig) → Buf (Elt Ideal) ℓ) (ρ : Dev nD → PrngReg)

/-- The run read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v19) = layer (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  funext i
  pointwise [layer, lowRankForm, reparam]
  refine congrArg (fun s => _ * Ideal.rsqrt (s + _)) (Finset.sum_congr rfl fun r _ => ?_)
  exact mul_comm _ _

end Cert.ReferenceIdeal.RefForm

end
-- ==== Proof.KernelValue.lean ====
/- The kernel's run read: the host's reshapes around the region, and the result as the layer of the arguments. -/
module

public import proofs.«01_k».proof.Proof.Block
public import proofs.«01_k».proof.Proof.ReferenceValue

@[expose] public section

set_option maxRecDepth 16384

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.BlockValue Cert.Gdn

/-- The region's function between the host's reshapes is the layer: the images' rows and columns are merged into one
    axis of pixels and split again, and the Gram form is the low-rank form. -/
theorem form_reshaped (X : FVec Ideal S8x192x256x256 .f32) (B : FVec Ideal S192 .f32) (A : FVec Ideal S192x8 .f32) :
    shapeCast S8x192x256x256 (form (shapeCast S8x192x65536 X shapeCasts_S8x192x256x256_S8x192x65536)
        (shapeCast S192x1 B shapeCasts_S192_S192x1) A) shapeCasts_S8x192x65536_S8x192x256x256
      = ReferenceIdeal.RefForm.layer X B A := by
  funext i
  idx_vars i
  refine Eq.trans ?_ (gramForm_eq_lowRankForm _ _ _ _)
  pointwise [form]

variable (m : (ℓ : Loc nD τ sig) → Buf (Elt Ideal) ℓ) (ρ : Dev nD → PrngReg)

/-- The region's array of pixels is the images with rows and columns merged. -/
theorem pixels_entry (c : Dev nD) : V m c main_v0
    = shapeCast S8x192x65536 (m ((c.tc : Thread nD τ).loc main_arg0)) shapeCasts_S8x192x256x256_S8x192x65536 := by
  entry_read
  rfl

/-- The region's array of biases is the vector of biases as a column. -/
theorem biases_entry (c : Dev nD) : V m c main_v1
    = shapeCast S192x1 (m ((c.tc : Thread nD τ).loc main_arg1)) shapeCasts_S192_S192x1 := by
  entry_read
  rfl

/-- What the last reshape leaves in the result's buffer. -/
theorem tail_result (c : Dev nD) :
    Pipeline.afterTail₀ cfgs (dats m) 0 (V0 m) [hostOps1] c main_v3
      = ReferenceIdeal.RefForm.layer (m ((c.tc : Thread nD τ).loc main_arg0)) (m ((c.tc : Thread nD τ).loc main_arg1))
          (m ((c.tc : Thread nD τ).loc main_arg2)) := by
  unfold Pipeline.afterTail₀
  have hr : Pipeline.withArrays (cfgs 0).spec c (V0 m c) (fun w => (dats m 0 c).arrAt w (cfgs 0).N) (Proc.devRef .tc main_v2)
      = form (V m c main_v0) (V m c main_v1) (V m c main_arg2) :=
    (Pipeline.withArrays_arr spec0 launch0.win.arr_inj c (V0 m c) _ 3).trans (final m c)
  rw [← form_reshaped]
  simp only [List.flatten_cons, List.flatten_nil, List.append_nil, hostOps1]
  after_results
  rw [hr, V_main_arg2 m c, pixels_entry m c, biases_entry m c]
  rfl

/-- The run read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v3) = ReferenceIdeal.RefForm.layer (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h.1 c).2 main_v3 (Pipeline.mem_restRefs_of main_v3 (by decide) (by decide))).trans (tail_result m c), h.2 c⟩)
    (θ_run_and (run_main m ρ) (unchanged m ρ))

end Cert.KernelIdeal.RunValue

end
-- ==== Proof.lean ====
/- The certificate: the frames, and the equation of the kernel and the reference over the extended reals. Both runs end
   with the result at one function of the arguments, `ReferenceIdeal.RefForm.layer`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel terminates without fault, leaves its arguments unchanged and every counter at zero. -/
theorem frame_kernel : Cert.quiescent_Kernel := fun m ρ _ => Cert.Kernel.Gen.frame m ρ

/-- The kernel over the extended reals does so too. -/
theorem frame_kernelIdeal : Cert.quiescent_KernelIdeal := fun m ρ _ => Cert.KernelIdeal.Gen.frame m ρ

/-- And so does the reference, which declares no counter. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.RefForm.run m ρ)

/-- The idealized kernel is the kernel's own text. -/
theorem preserves : Cert.preserves_Kernel_KernelIdeal := trivial

/-- Kernel and reference compute the same function of the arguments, at every extended real. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun r h c => ⟨(h c).1.trans ?_, (h c).2⟩)
    (Cert.ReferenceIdeal.RefForm.run m' ρ')
  rw [(hagree c).1, (hagree c).2.1, (hagree c).2.2]

/-- The five claims together, with the side conditions of the three programs. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
